-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x512 : Shape := ⟨3, ![32, 512, 512]⟩
abbrev S32x2 : Shape := ⟨2, ![32, 2]⟩
abbrev S32x4096x128 : Shape := ⟨3, ![32, 4096, 128]⟩
abbrev S32x262144 : Shape := ⟨2, ![32, 262144]⟩
abbrev S8x256x512 : Shape := ⟨3, ![8, 256, 512]⟩
abbrev S8x2048x128 : Shape := ⟨3, ![8, 2048, 128]⟩
abbrev S8x131072 : Shape := ⟨2, ![8, 131072]⟩
abbrev S8x128 : Shape := ⟨2, ![8, 128]⟩
abbrev S1x8x128 : Shape := ⟨3, ![1, 8, 128]⟩
abbrev S256x8x128 : Shape := ⟨3, ![256, 8, 128]⟩
abbrev S2048x128 : Shape := ⟨2, ![2048, 128]⟩
abbrev S2048x1 : Shape := ⟨2, ![2048, 1]⟩
abbrev S1x1 : Shape := ⟨2, ![1, 1]⟩
abbrev S1x2048x128 : Shape := ⟨3, ![1, 2048, 128]⟩
abbrev S32x2048x2x128 : Shape := ⟨4, ![32, 2048, 2, 128]⟩
abbrev S32x2048x128x2 : Shape := ⟨4, ![32, 2048, 128, 2]⟩
abbrev S32x262144x2 : Shape := ⟨3, ![32, 262144, 2]⟩

abbrev nBuf : Space → Nat
  | .hbm => 8
  | .vmem => 6
  | .smem => 2
  | _ => 0

abbrev bufTy : (tb : Table) → Fin (tcTables nBuf tb) → BufTy
  | .hbm, ⟨0, _⟩ => ⟨S32x512x512, .f32⟩
  | .hbm, ⟨1, _⟩ => ⟨S32x2, .f32⟩
  | .hbm, ⟨2, _⟩ => ⟨S32x2, .f32⟩
  | .hbm, ⟨3, _⟩ => ⟨S32x4096x128, .f32⟩
  | .hbm, ⟨4, _⟩ => ⟨S32x262144, .f32⟩
  | .hbm, ⟨5, _⟩ => ⟨S32x2048x2x128, .f32⟩
  | .hbm, ⟨6, _⟩ => ⟨S32x2048x128x2, .f32⟩
  | .hbm, ⟨7, _⟩ => ⟨S32x262144x2, .f32⟩
  | .local _ .vmem, ⟨0, _⟩ => ⟨S8x256x512, .f32⟩
  | .local _ .vmem, ⟨1, _⟩ => ⟨S8x256x512, .f32⟩
  | .local _ .vmem, ⟨2, _⟩ => ⟨S8x2048x128, .f32⟩
  | .local _ .vmem, ⟨3, _⟩ => ⟨S8x2048x128, .f32⟩
  | .local _ .vmem, ⟨4, _⟩ => ⟨S8x131072, .f32⟩
  | .local _ .vmem, ⟨5, _⟩ => ⟨S8x131072, .f32⟩
  | .local _ .smem, ⟨0, _⟩ => ⟨S32x2, .f32⟩
  | .local _ .smem, ⟨1, _⟩ => ⟨S32x2, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_off1 (i : grid0.Coords) (c0_i32_2 : BitVec 32) : Fin 2 → Nat :=
  let arg1 : BitVec 32 := BitVec.ofNat 32 (i 1).val
  let c8_i32 : BitVec 32 := 8#32
  let v25 : BitVec 32 := Scalar.muli arg1 c8_i32
  let v26 : BitVec 32 := Scalar.addi v25 c0_i32_2
  let v27 : Index := Scalar.indexCast v26
  let c0 : Index := 0#32
  ![v27.toNat, 0]
def k0_off2 (i : grid0.Coords) (c0_i32_2 : BitVec 32) : Fin 2 → Nat :=
  let arg1 : BitVec 32 := BitVec.ofNat 32 (i 1).val
  let c8_i32 : BitVec 32 := 8#32
  let v25 : BitVec 32 := Scalar.muli arg1 c8_i32
  let v26 : BitVec 32 := Scalar.addi v25 c0_i32_2
  let v31 : Index := Scalar.indexCast v26
  let c1 : Index := 1#32
  ![v31.toNat, 1]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S32x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x512x512 : Shape := ⟨3, ![32, 512, 512]⟩
abbrev S32x2 : Shape := ⟨2, ![32, 2]⟩
abbrev S32x1 : Shape := ⟨2, ![32, 1]⟩
abbrev S32 : Shape := ⟨1, ![32]⟩
abbrev S_ : Shape := ⟨0, ![]⟩
abbrev S511 : Shape := ⟨1, ![511]⟩
abbrev S1 : Shape := ⟨1, ![1]⟩
abbrev S512 : Shape := ⟨1, ![512]⟩
abbrev S1x512 : Shape := ⟨2, ![1, 512]⟩
abbrev S32x512 : Shape := ⟨2, ![32, 512]⟩
abbrev S32x512x1 : Shape := ⟨3, ![32, 512, 1]⟩
abbrev S32x1x512 : Shape := ⟨3, ![32, 1, 512]⟩
abbrev S32x262144 : Shape := ⟨2, ![32, 262144]⟩
abbrev S32x262144x1 : Shape := ⟨3, ![32, 262144, 1]⟩
abbrev S32x262144x2 : Shape := ⟨3, ![32, 262144, 2]⟩

abbrev nBuf : Space → Nat
  | .hbm => 121
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x2, .f32⟩
  | .hbm, ⟨2, _⟩ => ⟨S32x2, .f32⟩
  | .hbm, ⟨3, _⟩ => ⟨S32x1, .f32⟩
  | .hbm, ⟨4, _⟩ => ⟨S32, .f32⟩
  | .hbm, ⟨5, _⟩ => ⟨S32x1, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S32, .f32⟩
  | .hbm, ⟨13, _⟩ => ⟨S32x1, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S511, .f32⟩
  | .hbm, ⟨27, _⟩ => ⟨S_, .f32⟩
  | .hbm, ⟨28, _⟩ => ⟨S511, .f32⟩
  | .hbm, ⟨29, _⟩ => ⟨S511, .f32⟩
  | .hbm, ⟨30, _⟩ => ⟨S1, .f32⟩
  | .hbm, ⟨31, _⟩ => ⟨S_, .f32⟩
  | .hbm, ⟨32, _⟩ => ⟨S511, .f32⟩
  | .hbm, ⟨33, _⟩ => ⟨S511, .f32⟩
  | .hbm, ⟨34, _⟩ => ⟨S511, .f32⟩
  | .hbm, ⟨35, _⟩ => ⟨S511, .f32⟩
  | .hbm, ⟨36, _⟩ => ⟨S1, .f32⟩
  | .hbm, ⟨37, _⟩ => ⟨S511, .f32⟩
  | .hbm, ⟨38, _⟩ => ⟨S511, .f32⟩
  | .hbm, ⟨39, _⟩ => ⟨S511, .f32⟩
  | .hbm, ⟨40, _⟩ => ⟨S1, .f32⟩
  | .hbm, ⟨41, _⟩ => ⟨S512, .f32⟩
  | .hbm, ⟨42, _⟩ => ⟨S1x512, .f32⟩
  | .hbm, ⟨43, _⟩ => ⟨S32x1, .f32⟩
  | .hbm, ⟨44, _⟩ => ⟨S32x512, .f32⟩
  | .hbm, ⟨45, _⟩ => ⟨S32x512, .f32⟩
  | .hbm, ⟨46, _⟩ => ⟨S32x512, .f32⟩
  | .hbm, ⟨47, _⟩ => ⟨S_, .f32⟩
  | .hbm, ⟨48, _⟩ => ⟨S32x512, .f32⟩
  | .hbm, ⟨49, _⟩ => ⟨S32x512, .f32⟩
  | .hbm, ⟨50, _⟩ => ⟨S32x1, .f32⟩
  | .hbm, ⟨51, _⟩ => ⟨S32, .f32⟩
  | .hbm, ⟨52, _⟩ => ⟨S32x1, .f32⟩
  | .hbm, ⟨53, _⟩ => ⟨S32x512, .f32⟩
  | .hbm, ⟨54, _⟩ => ⟨S32x512, .f32⟩
  | .hbm, ⟨55, _⟩ => ⟨S32x1, .f32⟩
  | .hbm, ⟨56, _⟩ => ⟨S_, .f32⟩
  | .hbm, ⟨57, _⟩ => ⟨S32x1, .f32⟩
  | .hbm, ⟨58, _⟩ => ⟨S32x1, .f32⟩
  | .hbm, ⟨59, _⟩ => ⟨S32x512, .f32⟩
  | .hbm, ⟨60, _⟩ => ⟨S32x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S511, .f32⟩
  | .hbm, ⟨69, _⟩ => ⟨S_, .f32⟩
  | .hbm, ⟨70, _⟩ => ⟨S511, .f32⟩
  | .hbm, ⟨71, _⟩ => ⟨S511, .f32⟩
  | .hbm, ⟨72, _⟩ => ⟨S1, .f32⟩
  | .hbm, ⟨73, _⟩ => ⟨S_, .f32⟩
  | .hbm, ⟨74, _⟩ => ⟨S511, .f32⟩
  | .hbm, ⟨75, _⟩ => ⟨S511, .f32⟩
  | .hbm, ⟨76, _⟩ => ⟨S511, .f32⟩
  | .hbm, ⟨77, _⟩ => ⟨S511, .f32⟩
  | .hbm, ⟨78, _⟩ => ⟨S1, .f32⟩
  | .hbm, ⟨79, _⟩ => ⟨S511, .f32⟩
  | .hbm, ⟨80, _⟩ => ⟨S511, .f32⟩
  | .hbm, ⟨81, _⟩ => ⟨S511, .f32⟩
  | .hbm, ⟨82, _⟩ => ⟨S1, .f32⟩
  | .hbm, ⟨83, _⟩ => ⟨S512, .f32⟩
  | .hbm, ⟨84, _⟩ => ⟨S1x512, .f32⟩
  | .hbm, ⟨85, _⟩ => ⟨S32x1, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S_, .f32⟩
  | .hbm, ⟨90, _⟩ => ⟨S32x512, .f32⟩
  | .hbm, ⟨91, _⟩ => ⟨S32x512, .f32⟩
  | .hbm, ⟨92, _⟩ => ⟨S32x1, .f32⟩
  | .hbm, ⟨93, _⟩ => ⟨S32, .f32⟩
  | .hbm, ⟨94, _⟩ => ⟨S32x1, .f32⟩
  | .hbm, ⟨95, _⟩ => ⟨S32x512, .f32⟩
  | .hbm, ⟨96, _⟩ => ⟨S32x512, .f32⟩
  | .hbm, ⟨97, _⟩ => ⟨S32x1, .f32⟩
  | .hbm, ⟨98, _⟩ => ⟨S_, .f32⟩
  | .hbm, ⟨99, _⟩ => ⟨S32x1, .f32⟩
  | .hbm, ⟨100, _⟩ => ⟨S32x1, .f32⟩
  | .hbm, ⟨101, _⟩ => ⟨S32x512, .f32⟩
  | .hbm, ⟨102, _⟩ => ⟨S32x512, .f32⟩
  | .hbm, ⟨103, _⟩ => ⟨S32x512x1, .f32⟩
  | .hbm, ⟨104, _⟩ => ⟨S32x1x512, .f32⟩
  | .hbm, ⟨105, _⟩ => ⟨S_, .f32⟩
  | .hbm, ⟨106, _⟩ => ⟨S32x1x512, .f32⟩
  | .hbm, ⟨107, _⟩ => ⟨S32x512x512, .f32⟩
  | .hbm, ⟨108, _⟩ => ⟨S32x512x512, .f32⟩
  | .hbm, ⟨109, _⟩ => ⟨S32x512x512, .f32⟩
  | .hbm, ⟨110, _⟩ => ⟨S32x262144, .f32⟩
  | .hbm, ⟨111, _⟩ => ⟨S_, .f32⟩
  | .hbm, ⟨112, _⟩ => ⟨S32x512x1, .f32⟩
  | .hbm, ⟨113, _⟩ => ⟨S32x512x512, .f32⟩
  | .hbm, ⟨114, _⟩ => ⟨S32x512x512, .f32⟩
  | .hbm, ⟨115, _⟩ => ⟨S32x512x512, .f32⟩
  | .hbm, ⟨116, _⟩ => ⟨S32x262144, .f32⟩
  | .hbm, ⟨117, _⟩ => ⟨S32x262144, .f32⟩
  | .hbm, ⟨118, _⟩ => ⟨S32x262144x1, .f32⟩
  | .hbm, ⟨119, _⟩ => ⟨S32x262144x1, .f32⟩
  | .hbm, ⟨120, _⟩ => ⟨S32x262144x2, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_cst : Ref sig .tc := ⟨.hbm, 24, rfl⟩
abbrev main_call0_v3 : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_cst : Ref sig .tc := ⟨.hbm, 66, rfl⟩
abbrev main_call1_v3 : Ref sig .tc := ⟨.hbm, 67, rfl⟩
abbrev main_call1_v4 : Ref sig .tc := ⟨.hbm, 68, rfl⟩
abbrev main_call1_cst_0 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_v15 : Ref sig .tc := ⟨.hbm, 81, rfl⟩
abbrev main_call1_v16 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_7 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_8 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_9 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_10 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩

abbrev nD : Nat := 1
abbrev τ : Topo := Topo.v7x

variable {F : FTy → Type} [FloatOps F]
-- ==== Proof.Centre.lean ====
/-
  The mathematics of the grid of bin centres, over the extended reals, with no program in sight.

  An axis with limits `lo` and `hi` is cut in 512 bins of equal width. `centre lo hi n` is the middle of bin `n`, as the
  kernel spells it: the bin's number times the width, plus the first centre. The reference spells the same point as a
  fraction `n / 511` of the way through `511` widths; `centre_of_fraction` says that the two spellings agree whatever
  the limits are, infinite ones included. Only the association of products is used, never distributivity.
-/
module

public import Idealize.ShloMosaic.Lib.Pointwise

@[expose] public section

noncomputable section

namespace Cert.Centre

open Idealize.ShloMosaic

/-- The width of one of the 512 bins between `lo` and `hi`. -/
def width (lo hi : EReal) : EReal := (hi - lo) * ((1 / 512 : ℝ) : EReal)

/-- The middle of bin number `n`. -/
def centre (lo hi : EReal) (n : ℕ) : EReal :=
  ((n : ℝ) : EReal) * width lo hi + (lo + width lo hi * ((1 / 2 : ℝ) : EReal))

/-- What the literals of the two programs denote. -/
theorem lit_512th : Ideal.ofBits .f32 0x3B000000#32 = ((1 / 512 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_512 : Ideal.ofBits .f32 0x44000000#32 = ((512 : ℝ) : EReal) := by
  simp [Ideal.ofBits, Ideal.ieee, -EReal.coe_mul]; norm_num

theorem lit_511 : Ideal.ofBits .f32 0x43FF8000#32 = ((511 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

/-- Point `n` of 512 evenly spaced points from 0 to 1, as the reference spells it: a mixture of the two ends for all but
    the last point, and the upper end itself for the last. -/
def fraction (n : ℕ) : EReal :=
  if n < 511 then
    (0 : EReal) * (1 - Ideal.div ((n : ℝ) : EReal) ((511 : ℝ) : EReal))
      + 1 * Ideal.div ((n : ℝ) : EReal) ((511 : ℝ) : EReal)
  else 1

/-- It is `n / 511`. -/
theorem fraction_eq (n : ℕ) (hn : n < 512) : fraction n = (((n : ℝ) / 511 : ℝ) : EReal) := by
  unfold fraction
  split
  · rw [zero_mul, zero_add, one_mul, Ideal.div_coe (by norm_num), ← EReal.coe_mul]
    congr 1; ring
  · have : n = 511 := by omega
    subst this
    norm_num

/-- The reference's spelling of a bin's centre is the kernel's. -/
theorem centre_of_fraction (lo hi : EReal) (n : ℕ) (hn : n < 512) :
    fraction n * Ideal.div (hi - lo) ((512 : ℝ) : EReal) * ((511 : ℝ) : EReal) + lo
      + Ideal.div (Ideal.div (hi - lo) ((512 : ℝ) : EReal)) ((2 : ℝ) : EReal) = centre lo hi n := by
  rw [Ideal.div_coe (by norm_num), Ideal.div_coe (by norm_num), fraction_eq n hn]
  show _ = ((n : ℝ) : EReal) * width lo hi + (lo + width lo hi * ((1 / 2 : ℝ) : EReal))
  rw [← add_assoc]
  have h : (((n : ℝ) / 511 : ℝ) : EReal) * ((511 : ℝ) : EReal) = ((n : ℝ) : EReal) := by
    rw [← EReal.coe_mul]; congr 1; ring
  unfold width
  congr 2
  rw [mul_right_comm, h]

end Cert.Centre

end
-- ==== Proof.Tile.lean ====
/-
  One image's tile of coordinates, as the kernel's body computes it, read at an index.

  The body works on eight images, one after another, and writes the same expression for each of them. The eight stored
  values are here one function, `tile`, of the grid point and the image's four limits, and `tile_apply` says what it
  holds: rows with an even number hold the x centre of their column of bins, rows with an odd number the 128 y centres
  of their quarter.
-/
module

public import proofs.«01_k».proof.Proof.Gen.KernelIdeal.Skeleton
public import proofs.«01_k».proof.Proof.Centre

@[expose] public section

noncomputable section

namespace Cert.KernelIdeal.Tile

open Cert.KernelIdeal Cert.KernelIdeal.Gen Cert.Centre Idealize.ShloMosaic

/-- The number of the bin a lane of the 8 by 128 pattern stands for along y: `(sub / 2 mod 4) · 128 + lane`. -/
theorem pattern_word (s : Fin 8) (l : Fin 128) :
    (IntOp.addi (IntOp.shli .vector (IntOp.andi (IntOp.shrsi .vector (BitVec.ofNat 32 (s : ℕ)) 1#32) 3#32) 7#32)
      (BitVec.ofNat 32 (l : ℕ))).toInt = (((s : ℕ) / 2 % 4 * 128 + (l : ℕ) : ℕ) : ℤ) := by
  revert s l; decide +kernel

/-- The number of the bin a row of the tile stands for along x: 256 bins to a half, eight rows to a bin. -/
theorem column_word (h : Fin 2) (R : Fin 2048) :
    (IntOp.addi (Scalar.muli (BitVec.ofNat 32 (h : ℕ)) 256#32) (IntOp.shrsi .vector (BitVec.ofNat 32 (R : ℕ)) 3#32)).toInt
      = (((h : ℕ) * 256 + (R : ℕ) / 8 : ℕ) : ℤ) := by
  revert h R; decide +kernel

/-- The test that tells a row of x centres from a row of y centres: its number within the eight is even. -/
theorem parity_word (s : Fin 8) :
    IntOp.cmpi .eq (IntOp.andi (BitVec.ofNat 32 (s : ℕ)) 1#32) 0#32 = if (s : ℕ) % 2 = 0 then 1#1 else 0#1 := by
  revert s; decide +kernel

/-- A word converted to a float is the real number it stands for. -/
theorem float_of_word (b : BitVec 32) (n : ℕ) (h : b.toInt = (n : ℤ)) :
    FloatOps.sitofp (F := Ideal) .f32 b = ((n : ℝ) : EReal) := by
  show ((b.toInt : ℝ) : EReal) = _
  rw [h, Int.cast_natCast]

theorem pattern_apply (s : Fin 8) (l : Fin 128) :
    k0_pay3 (F := Ideal) (ix2 s l) = ((((s : ℕ) / 2 % 4 * 128 + (l : ℕ) : ℕ) : ℝ) : EReal) := by
  unfold k0_pay3
  pointwise
  exact float_of_word _ _ (pattern_word s l)

theorem column_apply (i : grid0.Coords) (R : Fin 2048) :
    k0_pay5 (F := Ideal) i (ix2 R 0) = ((((i 0 : ℕ) * 256 + (R : ℕ) / 8 : ℕ) : ℝ) : EReal) := by
  unfold k0_pay5
  pointwise
  exact float_of_word _ _ (column_word (i 0) R)

theorem parity_apply (R : Fin 2048) (l : Fin 128) :
    k0_pay4 (ix2 R l) = if (R : ℕ) % 2 = 0 then 1#1 else 0#1 := by
  unfold k0_pay4
  pointwise
  rw [parity_word ⟨(R : ℕ) % 8, Nat.mod_lt _ (by decide)⟩, Nat.mod_mod_of_dvd _ (by decide)]

/-- One image's tile at grid point `i`, from its limits: the lower and the upper one along x, then along y. -/
def tile (i : grid0.Coords) (x0 x1 y0 y1 : EReal) : FVec Ideal S1x2048x128 .f32 :=
  k0_pay16 (F := Ideal) k0_pay3 k0_pay4 (k0_pay5 i) x0 y0 x1 y1

theorem tile_apply (i : grid0.Coords) (x0 x1 y0 y1 : EReal) (R : Fin 2048) (l : Fin 128) :
    tile i x0 x1 y0 y1 (ix3 0 R l)
      = if (R : ℕ) % 2 = 0 then centre x0 x1 ((i 0 : ℕ) * 256 + (R : ℕ) / 8)
        else centre y0 y1 ((R : ℕ) / 2 % 4 * 128 + (l : ℕ)) := by
  unfold tile k0_pay16
  pointwise
  rw [parity_apply, column_apply, pattern_apply, lit_512th, lit_half]
  have hq : (R : ℕ) % 8 / 2 % 4 = (R : ℕ) / 2 % 4 := by omega
  dsimp only
  rw [hq]
  by_cases h : (R : ℕ) % 2 = 0
  · rw [if_pos h, if_pos h]; exact ValueIdx.select_one _ _
  · rw [if_neg h, if_neg h]; exact ValueIdx.select_zero _ _

section Bridges

variable (i : grid0.Coords) (x0 x1 y0 y1 : EReal)

/-- The eight stored values, each cut into payloads in its own way, are that one tile. -/
theorem stored0 : k0_pay9 (F := Ideal) k0_pay3 k0_pay4 (k0_pay5 i) y0 (k0_pay6 x0 x1) (k0_pay7 y0 y1) (k0_pay8 x0 x1)
    (Scalar.ofBits .f32 0x3F000000#32) = tile i x0 x1 y0 y1 := rfl

theorem stored1 : k0_pay13 (F := Ideal) k0_pay4 (k0_pay5 i) (k0_pay10 x0 x1) (k0_pay11 x0 x1) (k0_pay12 k0_pay3 y0 y1)
    = tile i x0 x1 y0 y1 := rfl

theorem stored2 : k0_pay15 (F := Ideal) (k0_pay14 k0_pay3 k0_pay4 (k0_pay5 i) x0 y0 x1 y1) = tile i x0 x1 y0 y1 := rfl

theorem stored4 : k0_pay17 (F := Ideal) k0_pay3 k0_pay4 (k0_pay5 i) x0 y0 x1 y1 = tile i x0 x1 y0 y1 := rfl

theorem stored5 : k0_pay19 (F := Ideal) k0_pay3 k0_pay4 (k0_pay5 i) x0 y0 (k0_pay18 x0 x1) y1 = tile i x0 x1 y0 y1 := rfl

theorem stored6 : k0_pay23 (F := Ideal) k0_pay3 k0_pay4 (k0_pay5 i) y0 (k0_pay20 x0 x1) (k0_pay21 y0 y1) (k0_pay22 x0 x1)
    (Scalar.ofBits .f32 0x3F000000#32) = tile i x0 x1 y0 y1 := rfl

theorem stored7 : k0_pay1 (F := Ideal) k0_pay4 (k0_pay5 i) (k0_pay24 x0 x1) (k0_pay25 x0 x1) (k0_pay26 k0_pay3 y0 y1)
    = tile i x0 x1 y0 y1 := rfl

end Bridges

end Cert.KernelIdeal.Tile

end
-- ==== Proof.Block.lean ====
/-
  What the kernel's body leaves in its two result blocks at one grid point, as functions of the blocks it was given.

  The coordinate block is written by eight stores, one image each; `coords_block` says that entry `y` of it is entry
  `(y 1, y 2)` of the tile of image `8 · g + y 0`. The eight stores go through one lemma, `store_ok`. The weight block
  is written by one store and is the histogram block laid out in rows (`weights_block`).
-/
module

public import proofs.«01_k».proof.Proof.Gen.KernelIdeal.Frame
public import proofs.«01_k».proof.Proof.Tile

@[expose] public section

noncomputable section

namespace Cert.KernelIdeal.Block

open Cert.KernelIdeal Cert.KernelIdeal.Gen Cert.KernelIdeal.Tile Cert.Centre
open Idealize.ShloMosaic Idealize.ShloMosaic.TcCoe Idealize.SL.Sem

variable (m : (ℓ : Loc nD τ sig) → Buf (Elt Ideal) ℓ)

/-- The number of the `k`-th image of grid point `i`. -/
def image (i : grid0.Coords) (k : Fin 8) : Fin 32 :=
  ⟨(i 1 : ℕ) * 8 + k, by have h : (i 1 : ℕ) < 4 := (i 1).isLt; have := k.isLt; omega⟩

/-- The word the body computes for that number. -/
theorem image_word (i : grid0.Coords) (k : Fin 8) :
    (Scalar.indexCast (Scalar.addi (Scalar.muli (BitVec.ofNat 32 (i 1 : ℕ)) 8#32) (BitVec.ofNat 32 (k : ℕ)))).toNat
      = (image i k : ℕ) := by
  have h : ∀ (g : Fin 4) (k : Fin 8),
      (Scalar.indexCast (Scalar.addi (Scalar.muli (BitVec.ofNat 32 (g : ℕ)) 8#32) (BitVec.ofNat 32 (k : ℕ)))).toNat
        = (g : ℕ) * 8 + k := by decide +kernel
  exact h (i 1) k

/-- That image and column `a` are inside the array of limits. -/
theorem load_inb (i : grid0.Coords) (k : Fin 8) (a : Fin 2) (b : Fin 2) :
    ![(Scalar.indexCast (Scalar.addi (Scalar.muli (BitVec.ofNat 32 (i 1 : ℕ)) 8#32) (BitVec.ofNat 32 (k : ℕ)))).toNat, (a : ℕ)] b
      + ![1, 1] b ≤ S32x2.size b := by
  rw [image_word]
  have h := (image i k).isLt
  have h' := a.isLt
  fin_cases b
  · show (image i k : ℕ) + 1 ≤ 32; omega
  · show (a : ℕ) + 1 ≤ 2; omega

/-- One limit as the body reads it: the load of one word at that row and at column `a`. -/
def load (x : Vec Ideal S32x2 .f32) (i : grid0.Coords) (k : Fin 8) (a : Fin 2) : EReal :=
  View.ld (Val := Elt Ideal) x (Rect.unit (s := S32x2) _ ![1, 1] (load_inb i k a)) (Shape.Idx.first (by decide : 0 < 1))

theorem load_eq (x : Vec Ideal S32x2 .f32) (i : grid0.Coords) (k : Fin 8) (a : Fin 2) :
    load x i k a = x (ix2 (image i k) a) := by
  show x _ = x _
  congr 1
  funext b
  fin_cases b
  · exact Fin.ext (image_word i k)
  · rfl

/-- The coordinates of one grid point's block, image by image, from the two arrays of limits. -/
def coordsAt (X Y : Vec Ideal S32x2 .f32) (i : grid0.Coords) : Vec Ideal S8x2048x128 .f32 := fun y =>
  tile i (X (ix2 (image i (y 0)) 0)) (X (ix2 (image i (y 0)) 1)) (Y (ix2 (image i (y 0)) 0)) (Y (ix2 (image i (y 0)) 1))
    (ix3 0 (y 1) (y 2))

/-- The store of image `k`'s tile writes the part of `coordsAt` that its rectangle covers. -/
theorem store_ok (X Y : Vec Ideal S32x2 .f32) (i : grid0.Coords) (k : Fin 8)
    (inb : ∀ a, ![(k : ℕ), 0, 0] a + S1x2048x128.size a ≤ S8x2048x128.size a)
    (P : FVec Ideal S1x2048x128 .f32)
    (hP : P = tile i (load X i k 0) (load X i k 1) (load Y i k 0) (load Y i k 1))
    (x : S1x2048x128.Idx) :
    P x = coordsAt X Y i ((Rect.unit (s := S8x2048x128) ![(k : ℕ), 0, 0] S1x2048x128.size inb).emb x) := by
  subst hP
  simp only [load_eq]
  have h0 : (x 0 : ℕ) = 0 := by have : (x 0 : ℕ) < 1 := (x 0).isLt; omega
  have e0 : (Rect.unit (s := S8x2048x128) ![(k : ℕ), 0, 0] S1x2048x128.size inb).emb x 0 = k :=
    Fin.ext (by rw [Rect.emb_apply, h0]; rfl)
  have e1 : (Rect.unit (s := S8x2048x128) ![(k : ℕ), 0, 0] S1x2048x128.size inb).emb x 1 = x 1 :=
    Fin.ext (by rw [Rect.emb_apply]; show 0 + 1 * (x 1 : ℕ) = _; omega)
  have e2 : (Rect.unit (s := S8x2048x128) ![(k : ℕ), 0, 0] S1x2048x128.size inb).emb x 2 = x 2 :=
    Fin.ext (by rw [Rect.emb_apply]; show 0 + 1 * (x 2 : ℕ) = _; omega)
  unfold coordsAt
  rw [e0, e1, e2]
  congr 1
  funext b
  fin_cases b
  · exact Fin.ext h0
  · rfl
  · rfl

/-- Window 0 stages the whole array of x limits at every point, -/
theorem xlims_block (c : Dev nD) (t : Fin cfg0.N) : iblk m c 0 t = m ((c : Thread nD τ).loc main_arg1) := by
  funext y
  show V m c main_arg1 (((cfg0.win 0).blk t).view.emb y) = _
  rw [V_main_arg1]
  congr 1
  funext a
  refine Fin.ext (show _ + 1 * (y a : ℕ) = _ from ?_)
  fin_cases a
  · show 0 + 1 * (y 0 : ℕ) = y 0; omega
  · show 0 + 1 * (y 1 : ℕ) = y 1; omega

/-- and window 1 the whole array of y limits. -/
theorem ylims_block (c : Dev nD) (t : Fin cfg0.N) : iblk m c 1 t = m ((c : Thread nD τ).loc main_arg2) := by
  funext y
  show V m c main_arg2 (((cfg0.win 1).blk t).view.emb y) = _
  rw [V_main_arg2]
  congr 1
  funext a
  refine Fin.ext (show _ + 1 * (y a : ℕ) = _ from ?_)
  fin_cases a
  · show 0 + 1 * (y 0 : ℕ) = y 0; omega
  · show 0 + 1 * (y 1 : ℕ) = y 1; omega

/-- The coordinate block after the body. -/
theorem coords_block (c : Dev nD) (t : Fin cfg0.N) :
    (outsAt0 m c t).1 = coordsAt (iblk m c 0 t) (iblk m c 1 t) (grid0.coords t) := by
  funext y
  have hc := cover0_A_3 c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t)
  unfold outsAt0 out0_A_3
  dsimp only
  rw [View.read_writes_eq_canon _ _ _ hc]
  refine View.canon_apply_of_pieces _ _ ?_ y (hc y)
  unfold kernelRun0_A
  dsimp only
  sl_unfold_words
  simp only [View.readAt_eq_ld, (hs0_0 t).read_unread, (hs0_1 t).read_unread, List.forall_mem_cons]
  exact ⟨store_ok _ _ _ 7 _ _ (stored7 ..), store_ok _ _ _ 6 _ _ (stored6 ..), store_ok _ _ _ 5 _ _ (stored5 ..),
    store_ok _ _ _ 4 _ _ (stored4 ..), store_ok _ _ _ 3 _ _ (rfl), store_ok _ _ _ 2 _ _ (stored2 ..),
    store_ok _ _ _ 1 _ _ (stored1 ..), store_ok _ _ _ 0 _ _ (stored0 ..), by simp⟩

/-- The weight block is the histogram block with the last two of its axes laid out as one. -/
theorem weights_block (c : Dev nD) (t : Fin cfg0.N) :
    (outsAt0 m c t).2 = shapeCast S8x131072 (iblk m c 2 t) shapeCasts_S8x256x512_S8x131072 := by
  have hc := cover0_A_4 c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t)
  unfold outsAt0 out0_A_4
  dsimp only
  rw [View.read_writes_eq_canon _ _ _ hc]
  unfold kernelRun0_A
  dsimp only
  sl_unfold_words
  simp only [View.readAt_eq_ld, (hs0_2 t).read_unread]
  rw [View.canon_unit_zero (by decide), View.ld_unit_zero (by decide)]
  rfl

end Cert.KernelIdeal.Block

end
-- ==== Proof.Arrays.lean ====
/-
  What the two arrays that the kernel's grid writes hold once every point has run.

  Point `t` of the grid works on images `8 · g ..` and half `h` of the bins. Each block it writes back is its part of
  one array given by a formula (`coords`, and the histogram laid out in rows), and the eight blocks fill both arrays.
-/
module

public import Idealize.ShloMosaic.Lib.Pipeline.Value
public import proofs.«01_k».proof.Proof.Block

@[expose] public section

noncomputable section

namespace Cert.KernelIdeal.Arrays

open Cert.KernelIdeal Cert.KernelIdeal.Gen Cert.KernelIdeal.Tile Cert.KernelIdeal.Block Cert.Centre
open Idealize.ShloMosaic Idealize.ShloMosaic.TcCoe Idealize.SL.Sem

variable (m : (ℓ : Loc nD τ sig) → Buf (Elt Ideal) ℓ)

/-- The array of coordinates: eight rows to a bin along x, alternating between x and y centres. -/
def coords (X Y : Vec Ideal S32x2 .f32) : Vec Ideal S32x4096x128 .f32 := fun i =>
  if (i 1 : ℕ) % 2 = 0 then centre (X (ix2 (i 0) 0)) (X (ix2 (i 0) 1)) ((i 1 : ℕ) / 8)
  else centre (Y (ix2 (i 0) 0)) (Y (ix2 (i 0) 1)) ((i 1 : ℕ) / 2 % 4 * 128 + (i 2 : ℕ))

/-- The array of weights: the histogram, its last two axes laid out as one. -/
def weights (H : Vec Ideal S32x512x512 .f32) : Vec Ideal S32x262144 .f32 := fun i =>
  H (ix3 (i 0) ⟨(i 1 : ℕ) / 512, by have : (i 1 : ℕ) < 262144 := (i 1).isLt; omega⟩ ⟨(i 1 : ℕ) % 512, Nat.mod_lt _ (by decide)⟩)

theorem weights_eq (H : Vec Ideal S32x512x512 .f32) (h : S32x512x512.ShapeCasts S32x262144) :
    weights H = shapeCast S32x262144 H h := by
  funext i
  pointwise
  rfl

/-- The grid point that works on images from `8 · g` on and on half `h` of the bins. -/
theorem point_of (h : Fin 2) (g : Fin 4) :
    ∃ t : Fin cfg0.N, (grid0.coords t 0 : ℕ) = h ∧ (grid0.coords t 1 : ℕ) = g :=
  (by decide +kernel : ∀ (h : Fin 2) (g : Fin 4), ∃ t : Fin grid0.N, (grid0.coords t 0 : ℕ) = h ∧ (grid0.coords t 1 : ℕ) = g) h g

/-- Where each window's block of a point starts, in blocks. -/
theorem index_hist : ∀ t : Fin cfg0.N, win0_2.index t = ![(grid0.coords t 1 : ℕ), (grid0.coords t 0 : ℕ), 0] :=
  (by decide +kernel : ∀ t : Fin grid0.N, win0_2.index t = ![(grid0.coords t 1 : ℕ), (grid0.coords t 0 : ℕ), 0])

theorem index_coords : ∀ t : Fin cfg0.N, win0_3.index t = ![(grid0.coords t 1 : ℕ), (grid0.coords t 0 : ℕ), 0] :=
  (by decide +kernel : ∀ t : Fin grid0.N, win0_3.index t = ![(grid0.coords t 1 : ℕ), (grid0.coords t 0 : ℕ), 0])

theorem index_weights : ∀ t : Fin cfg0.N, win0_4.index t = ![(grid0.coords t 1 : ℕ), (grid0.coords t 0 : ℕ)] :=
  (by decide +kernel : ∀ t : Fin grid0.N, win0_4.index t = ![(grid0.coords t 1 : ℕ), (grid0.coords t 0 : ℕ)])

/-- An entry of the coordinate block at its place in the array, axis by axis. -/
theorem place_coords (t : Fin cfg0.N) (y : S8x2048x128.Idx) :
    ((((cfg0.win 3).blk t).view.emb y : S32x4096x128.Idx) 0 : ℕ) = (grid0.coords t 1 : ℕ) * 8 + (y 0 : ℕ)
    ∧ ((((cfg0.win 3).blk t).view.emb y : S32x4096x128.Idx) 1 : ℕ) = (grid0.coords t 0 : ℕ) * 2048 + (y 1 : ℕ)
    ∧ ((((cfg0.win 3).blk t).view.emb y : S32x4096x128.Idx) 2 : ℕ) = (y 2 : ℕ) := by
  have e (a : Fin 3) : ((((cfg0.win 3).blk t).view.emb y : S32x4096x128.Idx) a : ℕ)
      = win0_3.index t a * S8x2048x128.size a + 1 * (y a : ℕ) := rfl
  refine ⟨?_, ?_, ?_⟩
  · rw [e, index_coords]; show _ * 8 + _ = _; rw [Nat.one_mul]; rfl
  · rw [e, index_coords]; show _ * 2048 + _ = _; rw [Nat.one_mul]; rfl
  · rw [e, index_coords]; show 0 * 128 + 1 * (y 2 : ℕ) = _; omega

theorem place_weights (t : Fin cfg0.N) (y : S8x131072.Idx) :
    ((((cfg0.win 4).blk t).view.emb y : S32x262144.Idx) 0 : ℕ) = (grid0.coords t 1 : ℕ) * 8 + (y 0 : ℕ)
    ∧ ((((cfg0.win 4).blk t).view.emb y : S32x262144.Idx) 1 : ℕ) = (grid0.coords t 0 : ℕ) * 131072 + (y 1 : ℕ) := by
  have e (a : Fin 2) : ((((cfg0.win 4).blk t).view.emb y : S32x262144.Idx) a : ℕ)
      = win0_4.index t a * S8x131072.size a + 1 * (y a : ℕ) := rfl
  refine ⟨?_, ?_⟩
  · rw [e, index_weights]; show _ * 8 + _ = _; rw [Nat.one_mul]; rfl
  · rw [e, index_weights]; show _ * 131072 + _ = _; rw [Nat.one_mul]; rfl

theorem place_hist (t : Fin cfg0.N) (y : S8x256x512.Idx) :
    ((((cfg0.win 2).blk t).view.emb y : S32x512x512.Idx) 0 : ℕ) = (grid0.coords t 1 : ℕ) * 8 + (y 0 : ℕ)
    ∧ ((((cfg0.win 2).blk t).view.emb y : S32x512x512.Idx) 1 : ℕ) = (grid0.coords t 0 : ℕ) * 256 + (y 1 : ℕ)
    ∧ ((((cfg0.win 2).blk t).view.emb y : S32x512x512.Idx) 2 : ℕ) = (y 2 : ℕ) := by
  have e (a : Fin 3) : ((((cfg0.win 2).blk t).view.emb y : S32x512x512.Idx) a : ℕ)
      = win0_2.index t a * S8x256x512.size a + 1 * (y a : ℕ) := rfl
  refine ⟨?_, ?_, ?_⟩
  · rw [e, index_hist]; show _ * 8 + _ = _; rw [Nat.one_mul]; rfl
  · rw [e, index_hist]; show _ * 256 + _ = _; rw [Nat.one_mul]; rfl
  · rw [e, index_hist]; show 0 * 512 + 1 * (y 2 : ℕ) = _; omega

/-- A point's block of coordinates against the whole array, entry `y` of the one at place `z` of the other. -/
theorem coordsAt_eq (X Y : Vec Ideal S32x2 .f32) (i : grid0.Coords) (y : S8x2048x128.Idx) (z : S32x4096x128.Idx)
    (z0 : (z 0 : ℕ) = (i 1 : ℕ) * 8 + (y 0 : ℕ)) (z1 : (z 1 : ℕ) = (i 0 : ℕ) * 2048 + (y 1 : ℕ)) (z2 : (z 2 : ℕ) = (y 2 : ℕ)) :
    coordsAt X Y i y = coords X Y z := by
  have himg : image i (y 0) = z 0 := Fin.ext z0.symm
  unfold coordsAt coords
  rw [himg, z1, z2]
  refine (tile_apply i _ _ _ _ (y 1) (y 2)).trans ?_
  have e0 : ((i 0 : ℕ) * 2048 + (y 1 : ℕ)) % 2 = (y 1 : ℕ) % 2 := by omega
  have e1 : ((i 0 : ℕ) * 2048 + (y 1 : ℕ)) / 8 = (i 0 : ℕ) * 256 + (y 1 : ℕ) / 8 := by omega
  have e2 : ((i 0 : ℕ) * 2048 + (y 1 : ℕ)) / 2 % 4 = (y 1 : ℕ) / 2 % 4 := by omega
  rw [e0, e1, e2]

/-- What a point writes back to the coordinate array is its block of `coords`. -/
theorem flushed_coords (c : Dev nD) (t : Fin cfg0.N) :
    (dats m 0 c).flushed 3 t = ((cfg0.win 3).blk t).view.read (Elt Ideal)
      (coords (m ((c : Thread nD τ).loc main_arg1)) (m ((c : Thread nD τ).loc main_arg2))) := by
  show (cfg0.win 3).cut (grid0.coords t) ((dats m 0 c).after 3 t) = _
  rw [after0_3, coords_block, xlims_block, ylims_block]
  funext y
  obtain ⟨p0, p1, p2⟩ := place_coords t y
  exact coordsAt_eq _ _ _ y _ p0 p1 p2

/-- A block of the histogram laid out in rows, entry `y` of it, when the block's entries are the array's at the places
    that `hB` names. -/
theorem rows_eq (H : Vec Ideal S32x512x512 .f32) (B : Vec Ideal S8x256x512 .f32) (g h : ℕ)
    (hB : ∀ (x : S8x256x512.Idx) (z : S32x512x512.Idx), (z 0 : ℕ) = g * 8 + (x 0 : ℕ) → (z 1 : ℕ) = h * 256 + (x 1 : ℕ) →
      (z 2 : ℕ) = (x 2 : ℕ) → B x = H z)
    (y : S8x131072.Idx) (z : S32x262144.Idx) (z0 : (z 0 : ℕ) = g * 8 + (y 0 : ℕ)) (z1 : (z 1 : ℕ) = h * 131072 + (y 1 : ℕ)) :
    shapeCast S8x131072 B shapeCasts_S8x256x512_S8x131072 y = weights H z := by
  pointwise
  unfold weights
  refine hB _ _ z0 ?_ ?_
  · show (z 1 : ℕ) / 512 = h * 256 + (y 1 : ℕ) / 512; omega
  · show (z 1 : ℕ) % 512 = (y 1 : ℕ) % 512; omega

/-- A point's histogram block, entry by entry, is the histogram at the places its window names. -/
theorem hist_block (c : Dev nD) (t : Fin cfg0.N) (x : S8x256x512.Idx) (z : S32x512x512.Idx)
    (z0 : (z 0 : ℕ) = (grid0.coords t 1 : ℕ) * 8 + (x 0 : ℕ)) (z1 : (z 1 : ℕ) = (grid0.coords t 0 : ℕ) * 256 + (x 1 : ℕ))
    (z2 : (z 2 : ℕ) = (x 2 : ℕ)) : iblk m c 2 t x = m ((c : Thread nD τ).loc main_arg0) z := by
  obtain ⟨p0, p1, p2⟩ := place_hist t x
  show V m c main_arg0 (((cfg0.win 2).blk t).view.emb x) = _
  rw [V_main_arg0]
  congr 1
  funext a
  refine Fin.ext ?_
  fin_cases a
  · exact p0.trans z0.symm
  · exact p1.trans z1.symm
  · exact p2.trans z2.symm

/-- What a point writes back to the weight array is its block of `weights`. -/
theorem flushed_weights (c : Dev nD) (t : Fin cfg0.N) :
    (dats m 0 c).flushed 4 t = ((cfg0.win 4).blk t).view.read (Elt Ideal) (weights (m ((c : Thread nD τ).loc main_arg0))) := by
  show (cfg0.win 4).cut (grid0.coords t) ((dats m 0 c).after 4 t) = _
  rw [after0_4, weights_block]
  funext y
  obtain ⟨p0, p1⟩ := place_weights t y
  exact rows_eq _ _ _ _ (hist_block m c t) y _ p0 p1

/-- Every entry of the coordinate array is in some point's block. -/
theorem cover_coords (z : S32x4096x128.Idx) :
    ∃ t : Fin cfg0.N, (cfg0.win 3).flush t = true ∧ z ∈ ((cfg0.win 3).blk t).view.set := by
  have h0 : (z 0 : ℕ) < 32 := (z 0).isLt
  have h1 : (z 1 : ℕ) < 4096 := (z 1).isLt
  obtain ⟨t, ht0, ht1⟩ := point_of ⟨(z 1 : ℕ) / 2048, by omega⟩ ⟨(z 0 : ℕ) / 8, by omega⟩
  refine ⟨t, flush0_3 t, Finset.mem_map.mpr ⟨ix3 ⟨(z 0 : ℕ) % 8, by omega⟩ ⟨(z 1 : ℕ) % 2048, by omega⟩ (z 2), Finset.mem_univ _, ?_⟩⟩
  obtain ⟨p0, p1, p2⟩ := place_coords t (ix3 ⟨(z 0 : ℕ) % 8, by omega⟩ ⟨(z 1 : ℕ) % 2048, by omega⟩ (z 2))
  rw [ht1] at p0
  rw [ht0] at p1
  funext a
  refine Fin.ext ?_
  fin_cases a
  · refine p0.trans ?_; show (z 0 : ℕ) / 8 * 8 + (z 0 : ℕ) % 8 = z 0; omega
  · refine p1.trans ?_; show (z 1 : ℕ) / 2048 * 2048 + (z 1 : ℕ) % 2048 = z 1; omega
  · exact p2

/-- Every entry of the weight array is in some point's block. -/
theorem cover_weights (z : S32x262144.Idx) :
    ∃ t : Fin cfg0.N, (cfg0.win 4).flush t = true ∧ z ∈ ((cfg0.win 4).blk t).view.set := by
  have h0 : (z 0 : ℕ) < 32 := (z 0).isLt
  have h1 : (z 1 : ℕ) < 262144 := (z 1).isLt
  obtain ⟨t, ht0, ht1⟩ := point_of ⟨(z 1 : ℕ) / 131072, by omega⟩ ⟨(z 0 : ℕ) / 8, by omega⟩
  refine ⟨t, flush0_4 t, Finset.mem_map.mpr ⟨ix2 ⟨(z 0 : ℕ) % 8, by omega⟩ ⟨(z 1 : ℕ) % 131072, by omega⟩, Finset.mem_univ _, ?_⟩⟩
  obtain ⟨p0, p1⟩ := place_weights t (ix2 ⟨(z 0 : ℕ) % 8, by omega⟩ ⟨(z 1 : ℕ) % 131072, by omega⟩)
  rw [ht1] at p0
  rw [ht0] at p1
  funext a
  refine Fin.ext ?_
  fin_cases a
  · refine p0.trans ?_; show (z 0 : ℕ) / 8 * 8 + (z 0 : ℕ) % 8 = z 0; omega
  · refine p1.trans ?_; show (z 1 : ℕ) / 131072 * 131072 + (z 1 : ℕ) % 131072 = z 1; omega

/-- So the two arrays end at those formulas. -/
theorem final_coords (c : Dev nD) : (dats m 0 c).arrAt 3 cfg0.N
    = coords (m ((c : Thread nD τ).loc main_arg1)) (m ((c : Thread nD τ).loc main_arg2)) :=
  (dats m 0 c).arrAt_eq_of_cover 3 _ (fun t _ => flushed_coords m c t) cover_coords

theorem final_weights (c : Dev nD) : (dats m 0 c).arrAt 4 cfg0.N = weights (m ((c : Thread nD τ).loc main_arg0)) :=
  (dats m 0 c).arrAt_eq_of_cover 4 _ (fun t _ => flushed_weights m c t) cover_weights

end Cert.KernelIdeal.Arrays

end
-- ==== Proof.Run.lean ====
/-
  The kernel's whole run, its operations after the grid included: both results as functions of the three arguments.

  After the grid the host splits the coordinate array's rows in pairs, moves the pair to the last axis and joins the
  rest, so that entry `(b, p, k)` of the first result is row `2 · (p / 128) + k`, lane `p mod 128`, of image `b`.
-/
module

public import Idealize.ShloMosaic.Lib.Claim
public import proofs.«01_k».proof.Proof.Arrays

@[expose] public section

noncomputable section

namespace Cert.KernelIdeal.Whole

open Cert.KernelIdeal Cert.KernelIdeal.Gen Cert.KernelIdeal.Arrays Cert.Centre
open Idealize.ShloMosaic Idealize.ShloMosaic.TcCoe Idealize.SL.Sem

variable (m : (ℓ : Loc nD τ sig) → Buf (Elt Ideal) ℓ) (ρ : Dev nD → PrngReg)

/-- The first result: the x and the y centre of every bin, bins numbered row by row. -/
def points (X Y : Vec Ideal S32x2 .f32) : Vec Ideal S32x262144x2 .f32 := fun i =>
  if (i 2 : ℕ) = 0 then centre (X (ix2 (i 0) 0)) (X (ix2 (i 0) 1)) ((i 1 : ℕ) / 512)
  else centre (Y (ix2 (i 0) 0)) (Y (ix2 (i 0) 1)) ((i 1 : ℕ) % 512)

/-- The operations after the grid take the coordinate array to it. -/
theorem points_eq (X Y : Vec Ideal S32x2 .f32) :
    shapeCast S32x262144x2 (transpose S32x2048x128x2 [0, 1, 3, 2]
      (shapeCast S32x2048x2x128 (coords X Y) shapeCasts_S32x4096x128_S32x2048x2x128)
      transposes_S32x2048x2x128_S32x2048x128x2_0_1_3_2) shapeCasts_S32x2048x128x2_S32x262144x2 = points X Y := by
  funext i
  obtain ⟨b, p, k, rfl⟩ : ∃ b p k, i = ix3 b p k := ⟨_, _, _, eq_ix3 i⟩
  pointwise
  have hb := b.isLt
  have hp := p.isLt
  have hk := k.isLt
  unfold coords points
  simp only [ix3_0, ix3_1, ix3_2]
  have e0 : ((p : ℕ) / 128 * 2 + (k : ℕ)) % 2 = k := by omega
  have e1 : ((p : ℕ) / 128 * 2 + (k : ℕ)) / 8 = (p : ℕ) / 512 := by omega
  have e2 : ((p : ℕ) / 128 * 2 + (k : ℕ)) / 2 % 4 * 128 + (p : ℕ) % 128 = (p : ℕ) % 512 := by omega
  simp only [e0, e1, e2]
  rfl

/-- What the operations after the grid leave in the first result. -/
theorem tail (c : Dev nD) : Pipeline.afterTail₀ cfgs (dats m) 0 (V0 m) [hostOps1] c main_v3
    = points (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v0_0)
      = coords (m ((c : Thread nD τ).loc main_arg1)) (m ((c : Thread nD τ).loc main_arg2)) :=
    (Pipeline.withArrays_arr _ launch0.win.arr_inj _ _ _ 3).trans (final_coords m c)
  unfold Pipeline.afterTail₀
  simp only [List.flatten_cons, List.flatten_nil, List.append_nil]
  after_results
  rw [hw]
  exact points_eq _ _

/-- The kernel's run. -/
theorem run : θ_run defs (onTc (τ := τ) (main (F := Ideal))) ⟨m, fun _ => 0, ρ⟩ fun r => ∀ c : Dev nD,
      r.2.mem ((c : Thread nD τ).loc main_v3)
        = points (m ((c : Thread nD τ).loc main_arg1)) (m ((c : Thread nD τ).loc main_arg2))
      ∧ r.2.mem ((c : Thread nD τ).loc main_v0_1) = weights (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from (run_main m ρ)
  · exact tail m c
  · exact final_weights m c

end Cert.KernelIdeal.Whole

end
-- ==== Proof.RefValue.lean ====
/-
  The reference's first result is the kernel's.

  The reference makes one axis of 512 centres from the x limits and one, by the same operations, from the y limits,
  spreads each over the grid, and joins the two. `axis` is that computation, named once; its entry `(b, n)` is the
  middle of bin `n` between the limits of image `b`.
-/
module

public import proofs.«01_k».proof.Proof.Run
public import proofs.«01_k».proof.Proof.Gen.ReferenceIdeal.Run
public import Idealize.ShloMosaic.Lib.Pointwise.ShapeOps

@[expose] public section

noncomputable section

namespace Cert.ReferenceIdeal.Grid

open Cert.ReferenceIdeal Cert.ReferenceIdeal.Gen Cert.Centre
open Idealize.ShloMosaic Idealize.ShloMosaic.TcCoe Idealize.SL.Sem

/-- How far along the 512 points from 0 to 1 all but the last are. -/
def step : FVec Ideal S511 .f32 :=
  Host.divf (sitofp .f32 (iotaInDim S511 32 0)) (broadcastInDim S511 ![] bcast_S_S511 (constant (F := Ideal) S_ .f32 0x43FF8000#32))

/-- 512 evenly spaced points from 0 to 1. -/
def spaced : FVec Ideal S512 .f32 :=
  concatenate S512 0
    [⟨S511, addf
        (mulf (broadcastInDim S511 ![0] bcast_S1_S511_0
            (shapeCast S1 (id (constant (F := Ideal) S_ .f32 0x00000000#32)) shapeCasts_S_S1))
          (subf (broadcastInDim S511 ![] bcast_S_S511 (constant (F := Ideal) S_ .f32 0x3F800000#32)) step))
        (mulf (broadcastInDim S511 ![0] bcast_S1_S511_0
            (shapeCast S1 (id (constant (F := Ideal) S_ .f32 0x3F800000#32)) shapeCasts_S_S1)) step)⟩,
      ⟨S1, broadcastInDim S1 ![] bcast_S_S1 (id (constant (F := Ideal) S_ .f32 0x3F800000#32))⟩] concatenates_S511_S1_S512_d0

/-- The lower limit of every image. -/
def lower (L : FVec Ideal S32x2 .f32) : FVec Ideal S32 .f32 :=
  shapeCast S32 (extractStridedSlice S32x1 ![0, 0] L slices_S32x2_S32x1_0_0) shapeCasts_S32x1_S32

/-- The width of a bin of every image. -/
def binWidth (L : FVec Ideal S32x2 .f32) : FVec Ideal S32 .f32 :=
  Host.divf (subf (shapeCast S32 (extractStridedSlice S32x1 ![0, 1] L slices_S32x2_S32x1_0_1) shapeCasts_S32x1_S32)
    (lower L)) (broadcastInDim S32 ![] bcast_S_S32 (constant (F := Ideal) S_ .f32 0x44000000#32))

/-- The 512 centres of every image along one axis, from that axis's limits. -/
def axis (L : FVec Ideal S32x2 .f32) : FVec Ideal S32x512 .f32 :=
  addf
    (addf
      (mulf
        (mulf (broadcastInDim S32x512 ![0, 1] bcast_S1x512_S32x512_0_1 (shapeCast S1x512 spaced shapeCasts_S512_S1x512))
          (broadcastInDim S32x512 ![0, 1] bcast_S32x1_S32x512_0_1 (shapeCast S32x1 (binWidth L) shapeCasts_S32_S32x1)))
        (broadcastInDim S32x512 ![] bcast_S_S32x512 (constant (F := Ideal) S_ .f32 0x43FF8000#32)))
      (broadcastInDim S32x512 ![0, 1] bcast_S32x1_S32x512_0_1 (shapeCast S32x1 (lower L) shapeCasts_S32_S32x1)))
    (broadcastInDim S32x512 ![0, 1] bcast_S32x1_S32x512_0_1
      (Host.divf (shapeCast S32x1 (binWidth L) shapeCasts_S32_S32x1)
        (broadcastInDim S32x1 ![] bcast_S_S32x1 (constant (F := Ideal) S_ .f32 0x40000000#32))))

/-- The x axis runs down the grid and the y axis across it; the result lists both for every point. -/
def join (X Y : FVec Ideal S32x512 .f32) : FVec Ideal S32x262144x2 .f32 :=
  concatenate S32x262144x2 2
    [⟨S32x262144x1, broadcastInDim S32x262144x1 ![0, 1] bcast_S32x262144_S32x262144x1_0_1
        (shapeCast S32x262144
          (mulf (broadcastInDim S32x512x512 ![0, 1, 2] bcast_S32x512x1_S32x512x512_0_1_2
              (broadcastInDim S32x512x1 ![0, 1] bcast_S32x512_S32x512x1_0_1 X))
            (broadcastInDim S32x512x512 ![0, 1, 2] bcast_S32x1x512_S32x512x512_0_1_2
              (broadcastInDim S32x1x512 ![] bcast_S_S32x1x512 (constant (F := Ideal) S_ .f32 0x3F800000#32))))
          shapeCasts_S32x512x512_S32x262144)⟩,
      ⟨S32x262144x1, broadcastInDim S32x262144x1 ![0, 1] bcast_S32x262144_S32x262144x1_0_1
        (shapeCast S32x262144
          (mulf (broadcastInDim S32x512x512 ![0, 1, 2] bcast_S32x1x512_S32x512x512_0_1_2
              (broadcastInDim S32x1x512 ![0, 2] bcast_S32x512_S32x1x512_0_2 Y))
            (broadcastInDim S32x512x512 ![0, 1, 2] bcast_S32x512x1_S32x512x512_0_1_2
              (broadcastInDim S32x512x1 ![] bcast_S_S32x512x1 (constant (F := Ideal) S_ .f32 0x3F800000#32))))
          shapeCasts_S32x512x512_S32x262144)⟩] concatenates_S32x262144x1_S32x262144x1_S32x262144x2_d2

/-- The reference's first result is made of these. -/
theorem result_eq (m : (ℓ : Loc nD τ sig) → Buf (Elt Ideal) ℓ) (c : Dev nD) :
    Value.res_out0 m c
      = join (axis (m ((c.tc : Thread nD τ).loc main_arg1))) (axis (m ((c.tc : Thread nD τ).loc main_arg2))) := rfl

theorem step_apply (k : Fin 511) :
    step (ix1 k) = Ideal.div (((k : ℕ) : ℝ) : EReal) ((511 : ℝ) : EReal) := by
  unfold step
  pointwise
  rw [lit_511, KernelIdeal.Tile.float_of_word _ k]
  have hk := k.isLt
  rw [BitVec.toInt_eq_toNat_of_lt] <;> rw [BitVec.toNat_ofNat, Nat.mod_eq_of_lt (by omega)]
  omega

theorem spaced_apply (k : Fin 512) : spaced (ix1 k) = fraction k := by
  unfold spaced
  simp only [id]
  pointwise
  unfold fraction
  split
  · rw [step_apply, one_mul]
  · rfl

theorem lower_apply (L : Vec Ideal S32x2 .f32) (b : Fin 32) : lower L (ix1 b) = L (ix2 b 0) := by
  unfold lower
  pointwise

theorem binWidth_apply (L : Vec Ideal S32x2 .f32) (b : Fin 32) :
    binWidth L (ix1 b) = Ideal.div (L (ix2 b 1) - L (ix2 b 0)) ((512 : ℝ) : EReal) := by
  unfold binWidth
  pointwise
  rw [lower_apply, lit_512]

/-- Every entry of an axis is the middle of its bin. -/
theorem axis_apply (L : Vec Ideal S32x2 .f32) (b : Fin 32) (n : Fin 512) :
    axis L (ix2 b n) = centre (L (ix2 b 0)) (L (ix2 b 1)) n := by
  rw [← centre_of_fraction _ _ _ n.isLt]
  unfold axis
  pointwise
  rw [spaced_apply, binWidth_apply, lower_apply, lit_511, lit_two]

/-- The reference's first result is the kernel's, from the same limits. -/
theorem join_axis (X Y : Vec Ideal S32x2 .f32) : join (axis X) (axis Y) = KernelIdeal.Whole.points X Y := by
  funext i
  obtain ⟨b, p, k, rfl⟩ : ∃ b p k, i = ix3 b p k := ⟨_, _, _, eq_ix3 i⟩
  unfold join KernelIdeal.Whole.points
  pointwise
  simp only [axis_apply]
  have hk := k.isLt
  by_cases h : (k : ℕ) = 0
  · rw [dif_pos (by omega), if_pos h]
  · rw [dif_neg (by omega), if_neg h]

end Cert.ReferenceIdeal.Grid

end
-- ==== Proof.lean ====
/-
  The five claims: the two frames of the kernel and the frame of the reference, that idealizing the kernel preserves it,
  and that the idealized kernel and the reference leave the same two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- Every run of the reference ends, its arguments unchanged and every counter at zero. -/
theorem reference_frame : Cert.quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

/-- The kernel and the reference, from the same three arguments, leave the same two results. -/
theorem results_agree : Cert.algebraic_KernelIdeal_ReferenceIdeal := by
  intro m ρ m' ρ' _ hagree
  refine ⟨fun c => Cert.KernelIdeal.Whole.points (m ((c.tc : Thread _ _).loc Cert.KernelIdeal.main_arg1))
      (m ((c.tc : Thread _ _).loc Cert.KernelIdeal.main_arg2)),
    fun c => Cert.KernelIdeal.Arrays.weights (m ((c.tc : Thread _ _).loc Cert.KernelIdeal.main_arg0)), ?_, ?_⟩
  · exact Cert.KernelIdeal.Whole.run m ρ
  · refine (θ_run Cert.ReferenceIdeal.defs _ _).mono (fun r h c => ?_)
      (Cert.ReferenceIdeal.Value.run (F := Ideal) m' ρ')
    obtain ⟨h0, h1, h2⟩ := hagree c
    refine ⟨(h c).1.trans ?_, (h c).2.1.trans ?_, (h c).2.2⟩
    · exact (Cert.ReferenceIdeal.Grid.result_eq m' c).trans ((Cert.ReferenceIdeal.Grid.join_axis _ _).trans
        (congrArg₂ Cert.KernelIdeal.Whole.points h1 h2))
    · exact (Cert.KernelIdeal.Arrays.weights_eq _ _).symm.trans (congrArg Cert.KernelIdeal.Arrays.weights h0)

/-- All five. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  results_agree⟩

end Cert.Proof

end
